-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S800000x9x8 : Shape := ⟨3, ![800000, 9, 8]⟩
abbrev S1x19x8x8 : Shape := ⟨4, ![1, 19, 8, 8]⟩
abbrev S81x19 : Shape := ⟨2, ![81, 19]⟩
abbrev S19x64 : Shape := ⟨2, ![19, 64]⟩
abbrev S81x64 : Shape := ⟨2, ![81, 64]⟩
abbrev S9x9x8x8 : Shape := ⟨4, ![9, 9, 8, 8]⟩
abbrev S9x8x9x8 : Shape := ⟨4, ![9, 8, 9, 8]⟩
abbrev S72x72 : Shape := ⟨2, ![72, 72]⟩
abbrev S16x16 : Shape := ⟨2, ![16, 16]⟩
abbrev S_ : Shape := ⟨0, ![]⟩
abbrev S16x1x16x1 : Shape := ⟨4, ![16, 1, 16, 1]⟩
abbrev S1x72x1x72 : Shape := ⟨4, ![1, 72, 1, 72]⟩
abbrev S16x72x16x72 : Shape := ⟨4, ![16, 72, 16, 72]⟩
abbrev S1152x1152 : Shape := ⟨2, ![1152, 1152]⟩
abbrev S50000x1152 : Shape := ⟨2, ![50000, 1152]⟩
abbrev S1000x1152 : Shape := ⟨2, ![1000, 1152]⟩

abbrev nBuf : Space → Nat
  | .hbm => 25
  | .vmem => 8
  | .smem => 0
  | _ => 0

abbrev bufTy : (tb : Table) → Fin (tcTables nBuf tb) → BufTy
  | .hbm, ⟨0, _⟩ => ⟨S800000x9x8, .f32⟩
  | .hbm, ⟨1, _⟩ => ⟨S1x19x8x8, .f32⟩
  | .hbm, ⟨2, _⟩ => ⟨S81x19, .f32⟩
  | .hbm, ⟨3, _⟩ => ⟨S19x64, .f32⟩
  | .hbm, ⟨4, _⟩ => ⟨S81x64, .f32⟩
  | .hbm, ⟨5, _⟩ => ⟨S9x9x8x8, .f32⟩
  | .hbm, ⟨6, _⟩ => ⟨S9x8x9x8, .f32⟩
  | .hbm, ⟨7, _⟩ => ⟨S72x72, .f32⟩
  | .hbm, ⟨8, _⟩ => ⟨S72x72, .bf16⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .bf16⟩
  | .hbm, ⟨16, _⟩ => ⟨S16x1x16x1, .bf16⟩
  | .hbm, ⟨17, _⟩ => ⟨S1x72x1x72, .bf16⟩
  | .hbm, ⟨18, _⟩ => ⟨S16x72x16x72, .bf16⟩
  | .hbm, ⟨19, _⟩ => ⟨S16x72x16x72, .bf16⟩
  | .hbm, ⟨20, _⟩ => ⟨S16x72x16x72, .bf16⟩
  | .hbm, ⟨21, _⟩ => ⟨S1152x1152, .bf16⟩
  | .hbm, ⟨22, _⟩ => ⟨S50000x1152, .f32⟩
  | .hbm, ⟨23, _⟩ => ⟨S50000x1152, .f32⟩
  | .hbm, ⟨24, _⟩ => ⟨S800000x9x8, .f32⟩
  | .local _ .vmem, ⟨0, _⟩ => ⟨S81x19, .f32⟩
  | .local _ .vmem, ⟨1, _⟩ => ⟨S19x64, .f32⟩
  | .local _ .vmem, ⟨2, _⟩ => ⟨S81x64, .f32⟩
  | .local _ .vmem, ⟨3, _⟩ => ⟨S1000x1152, .f32⟩
  | .local _ .vmem, ⟨4, _⟩ => ⟨S1000x1152, .f32⟩
  | .local _ .vmem, ⟨5, _⟩ => ⟨S1152x1152, .bf16⟩
  | .local _ .vmem, ⟨6, _⟩ => ⟨S1000x1152, .f32⟩
  | .local _ .vmem, ⟨7, _⟩ => ⟨S1000x1152, .f32⟩
  | _, _ => ⟨S800000x9x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := .none

abbrev stage0_0 : Fin 1 → Memref sig .tc .vmem S81x19 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S19x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S81x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1152 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1152x1152 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S800000x9x8 : Shape := ⟨3, ![800000, 9, 8]⟩
abbrev S1x19x8x8 : Shape := ⟨4, ![1, 19, 8, 8]⟩
abbrev S29 : Shape := ⟨1, ![29]⟩
abbrev S_ : Shape := ⟨0, ![]⟩
abbrev S29x1 : Shape := ⟨2, ![29, 1]⟩
abbrev S1 : Shape := ⟨1, ![1]⟩
abbrev S1x1 : Shape := ⟨2, ![1, 1]⟩
abbrev S1x29x8x8 : Shape := ⟨4, ![1, 29, 8, 8]⟩
abbrev S1x29x1x1 : Shape := ⟨4, ![1, 29, 1, 1]⟩
abbrev S800000x29x8 : Shape := ⟨3, ![800000, 29, 8]⟩
abbrev S800000x29x1x8 : Shape := ⟨4, ![800000, 29, 1, 8]⟩
abbrev S29x8x8 : Shape := ⟨3, ![29, 8, 8]⟩
abbrev S29x800000x1x8 : Shape := ⟨4, ![29, 800000, 1, 8]⟩

abbrev nBuf : Space → Nat
  | .hbm => 71
  | .vmem => 0
  | .smem => 0
  | _ => 0

abbrev bufTy : (tb : Table) → Fin (tcTables nBuf tb) → BufTy
  | .hbm, ⟨0, _⟩ => ⟨S800000x9x8, .f32⟩
  | .hbm, ⟨1, _⟩ => ⟨S1x19x8x8, .f32⟩
  | .hbm, ⟨2, _⟩ => ⟨S29, .i32⟩
  | .hbm, ⟨3, _⟩ => ⟨S29, .i32⟩
  | .hbm, ⟨4, _⟩ => ⟨S29, .f32⟩
  | .hbm, ⟨5, _⟩ => ⟨S29, .i32⟩
  | .hbm, ⟨6, _⟩ => ⟨S_, .i32⟩
  | .hbm, ⟨7, _⟩ => ⟨S29, .i32⟩
  | .hbm, ⟨8, _⟩ => ⟨S29, .i1⟩
  | .hbm, ⟨9, _⟩ => ⟨S_, .i32⟩
  | .hbm, ⟨10, _⟩ => ⟨S29, .i32⟩
  | .hbm, ⟨11, _⟩ => ⟨S29, .i32⟩
  | .hbm, ⟨12, _⟩ => ⟨S29, .i32⟩
  | .hbm, ⟨13, _⟩ => ⟨S29x1, .i32⟩
  | .hbm, ⟨14, _⟩ => ⟨S1, .i32⟩
  | .hbm, ⟨15, _⟩ => ⟨S_, .i32⟩
  | .hbm, ⟨16, _⟩ => ⟨S29x1, .i32⟩
  | .hbm, ⟨17, _⟩ => ⟨S29x1, .i1⟩
  | .hbm, ⟨18, _⟩ => ⟨S1x1, .i32⟩
  | .hbm, ⟨19, _⟩ => ⟨S29x1, .i32⟩
  | .hbm, ⟨20, _⟩ => ⟨S29x1, .i1⟩
  | .hbm, ⟨21, _⟩ => ⟨S29x1, .i1⟩
  | .hbm, ⟨22, _⟩ => ⟨S_, .i1⟩
  | .hbm, ⟨23, _⟩ => ⟨S29, .i1⟩
  | .hbm, ⟨24, _⟩ => ⟨S1x29x8x8, .f32⟩
  | .hbm, ⟨25, _⟩ => ⟨S1x29x8x8, .i1⟩
  | .hbm, ⟨26, _⟩ => ⟨S_, .f32⟩
  | .hbm, ⟨27, _⟩ => ⟨S1x29x8x8, .f32⟩
  | .hbm, ⟨28, _⟩ => ⟨S1x29x8x8, .f32⟩
  | .hbm, ⟨29, _⟩ => ⟨S1x29x1x1, .f32⟩
  | .hbm, ⟨30, _⟩ => ⟨S1x29x8x8, .f32⟩
  | .hbm, ⟨31, _⟩ => ⟨S1x29x8x8, .f32⟩
  | .hbm, ⟨32, _⟩ => ⟨S_, .i32⟩
  | .hbm, ⟨33, _⟩ => ⟨S29, .i32⟩
  | .hbm, ⟨34, _⟩ => ⟨S29, .i1⟩
  | .hbm, ⟨35, _⟩ => ⟨S_, .i32⟩
  | .hbm, ⟨36, _⟩ => ⟨S29, .i32⟩
  | .hbm, ⟨37, _⟩ => ⟨S29, .i32⟩
  | .hbm, ⟨38, _⟩ => ⟨S29, .i32⟩
  | .hbm, ⟨39, _⟩ => ⟨S29x1, .i32⟩
  | .hbm, ⟨40, _⟩ => ⟨S1, .i32⟩
  | .hbm, ⟨41, _⟩ => ⟨S_, .i32⟩
  | .hbm, ⟨42, _⟩ => ⟨S29x1, .i32⟩
  | .hbm, ⟨43, _⟩ => ⟨S29x1, .i1⟩
  | .hbm, ⟨44, _⟩ => ⟨S1x1, .i32⟩
  | .hbm, ⟨45, _⟩ => ⟨S29x1, .i32⟩
  | .hbm, ⟨46, _⟩ => ⟨S29x1, .i1⟩
  | .hbm, ⟨47, _⟩ => ⟨S29x1, .i1⟩
  | .hbm, ⟨48, _⟩ => ⟨S_, .i1⟩
  | .hbm, ⟨49, _⟩ => ⟨S29, .i1⟩
  | .hbm, ⟨50, _⟩ => ⟨S800000x29x8, .f32⟩
  | .hbm, ⟨51, _⟩ => ⟨S800000x29x8, .i1⟩
  | .hbm, ⟨52, _⟩ => ⟨S_, .f32⟩
  | .hbm, ⟨53, _⟩ => ⟨S800000x29x8, .f32⟩
  | .hbm, ⟨54, _⟩ => ⟨S800000x29x8, .f32⟩
  | .hbm, ⟨55, _⟩ => ⟨S800000x29x1x8, .f32⟩
  | .hbm, ⟨56, _⟩ => ⟨S29x8x8, .f32⟩
  | .hbm, ⟨57, _⟩ => ⟨S29x800000x1x8, .f32⟩
  | .hbm, ⟨58, _⟩ => ⟨S800000x29x1x8, .f32⟩
  | .hbm, ⟨59, _⟩ => ⟨S800000x29x8, .f32⟩
  | .hbm, ⟨60, _⟩ => ⟨S_, .f32⟩
  | .hbm, ⟨61, _⟩ => ⟨S800000x9x8, .f32⟩
  | .hbm, ⟨62, _⟩ => ⟨S_, .i32⟩
  | .hbm, ⟨63, _⟩ => ⟨S29, .i32⟩
  | .hbm, ⟨64, _⟩ => ⟨S29, .i1⟩
  | .hbm, ⟨65, _⟩ => ⟨S_, .i32⟩
  | .hbm, ⟨66, _⟩ => ⟨S29, .i32⟩
  | .hbm, ⟨67, _⟩ => ⟨S29, .i32⟩
  | .hbm, ⟨68, _⟩ => ⟨S29, .i32⟩
  | .hbm, ⟨69, _⟩ => ⟨S29x1, .i32⟩
  | .hbm, ⟨70, _⟩ => ⟨S800000x9x8, .f32⟩
  | _, _ => ⟨S800000x9x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_c_1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_cst_2 : Ref sig .tc := ⟨.hbm, 60, rfl⟩
abbrev main_v10 : Ref sig .tc := ⟨.hbm, 61, rfl⟩
abbrev main_c_3 : Ref sig .tc := ⟨.hbm, 62, rfl⟩
abbrev main_v11 : Ref sig .tc := ⟨.hbm, 63, rfl⟩
abbrev main_v12 : Ref sig .tc := ⟨.hbm, 64, rfl⟩
abbrev main_c_4 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩

abbrev nD : Nat := 1
abbrev τ : Topo := Topo.v7x

variable {F : FTy → Type} [FloatOps F]
-- ==== Proof.Run.lean ====
/- THE RUN of the idealized kernel, with its result array: the launch of the generated frame, read once more at the
   end, for the result array as well as for the arguments. -/
module

public import proofs.«01_k».proof.Proof.Gen.KernelIdeal.Frame

@[expose] public section

set_option maxRecDepth 16384

noncomputable section

namespace Cert.KernelIdeal.So2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel ends, faulting nowhere, with the result array at the last
    boundary's contents `W7` and both argument arrays as they were launched. -/
theorem run : θ_run defs (onTc (τ := τ) (main (F := F))) ⟨m, fun _ => 0, ρ⟩ (fun r => ∀ c : Dev nD,
      r.2.mem ((c.tc : Thread nD τ).loc main_v15) = W7 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v15 (by decide)),
       (h c _ (mem_uc main_arg0 (by decide))).trans (W7_main_arg0 m ρ c),
       (h c _ (mem_uc main_arg1 (by decide))).trans (W7_main_arg1 m ρ c)⟩)

end Cert.KernelIdeal.So2

end
-- ==== Proof.Host.lean ====
/- WHAT THE HOST OPERATIONS BEFORE, BETWEEN AND AFTER THE TWO LAUNCHES LEAVE, as terms of what stood there before. -/
module

public import proofs.«01_k».proof.Proof.Gen.KernelIdeal.Frame
public import Idealize.ShloMosaic.Lib.StableHlo.Run
public import Idealize.ShloMosaic.Lib.Pointwise

@[expose] public section

set_option maxRecDepth 16384

noncomputable section

namespace Cert.KernelIdeal.So2

open Idealize.ShloMosaic Idealize.ShloMosaic.TcCoe Idealize.SL.Sem Idealize.ShloMosaic.StableHlo
open Cert.KernelIdeal Cert.KernelIdeal.Gen

/-- The constant table, 81 rows of 19. -/
def table : FVec Ideal S81x19 .f32 := fun i => FloatOps.ofBits .f32 (lit0 (S81x19.rowMajor i))

/-- The 72×72 matrix: the 81×64 product as (9,9,8,8), its two middle axes exchanged, flattened. -/
def small (C : FVec Ideal S81x64 .f32) : FVec Ideal S72x72 .bf16 :=
  truncf .bf16 (shapeCast S72x72 (transpose S9x8x9x8 [0, 2, 1, 3] (shapeCast S9x9x8x8 C shapeCasts_S81x64_S9x9x8x8)
    transposes_S9x9x8x8_S9x8x9x8_0_2_1_3) shapeCasts_S9x8x9x8_S72x72) bitsLt_bf16_f32

/-- The 16×16 identity matrix. -/
def eye : FVec Ideal S16x16 .bf16 :=
  uitofp .bf16 (cmpi .eq (addi (iotaInDim S16x16 32 0) (broadcastInDim S16x16 ![] bcast_S_S16x16 (constantI S_ 32 0#32)))
    (iotaInDim S16x16 32 1))

/-- The Kronecker product of a 16×16 and a 72×72 matrix. -/
def kron (E : FVec Ideal S16x16 .bf16) (b : FVec Ideal S72x72 .bf16) : FVec Ideal S1152x1152 .bf16 :=
  shapeCast S1152x1152 (mulf
    (broadcastInDim S16x72x16x72 ![0, 1, 2, 3] bcast_S16x1x16x1_S16x72x16x72_0_1_2_3
      (broadcastInDim S16x1x16x1 ![0, 2] bcast_S16x16_S16x1x16x1_0_2 E))
    (broadcastInDim S16x72x16x72 ![0, 1, 2, 3] bcast_S1x72x1x72_S16x72x16x72_0_1_2_3
      (broadcastInDim S1x72x1x72 ![1, 3] bcast_S72x72_S1x72x1x72_1_3 b))) shapeCasts_S16x72x16x72_S1152x1152

variable (U : Valuation τ sig (Elt Ideal))

/-- Before launch 0 its left operand is the constant table. -/
theorem host_cst : StableHlo.after hostOps0 U (Proc.devRef .tc main_cst) = table := by
  after_results; rfl

/-- Before launch 0 its right operand is the weight, 19 rows of 64. -/
theorem host_v0 : StableHlo.after hostOps0 U (Proc.devRef .tc main_v0)
    = shapeCast S19x64 (U (Proc.devRef .tc main_arg1)) shapeCasts_S1x19x8x8_S19x64 := by
  after_results; rfl

/-- Between the launches: the 72×72 matrix of launch 0's result. -/
theorem host_v5 : StableHlo.after hostOps1 U (Proc.devRef .tc main_v5) = small (U (Proc.devRef .tc main_v1)) := by
  after_results; rfl

/-- Between the launches: the identity matrix. -/
theorem host_v11 : StableHlo.after hostOps1 U (Proc.devRef .tc main_v11) = eye := by
  after_results; rfl

/-- Between the launches: the Kronecker product. -/
theorem host_v12 : StableHlo.after hostOps1_1 U (Proc.devRef .tc main_v12)
    = kron (U (Proc.devRef .tc main_v11)) (U (Proc.devRef .tc main_v5)) := by
  simp only [hostOps1_1, TRef.binary, TRef.unary, TRef.reshape, TRef.toBuf, TRef.ofBuf, cast_eq]
  after_results; rfl

/-- Before launch 1 its rows are `x`, 50000 rows of 1152. -/
theorem host_v13 : StableHlo.after hostOps1_2 U (Proc.devRef .tc main_v13)
    = shapeCast S50000x1152 (U (Proc.devRef .tc main_arg0)) shapeCasts_S800000x9x8_S50000x1152 := by
  after_results; rfl

/-- After launch 1 the result is its result array, in the shape of `x`. -/
theorem host_v15 : StableHlo.after hostOps2 U (Proc.devRef .tc main_v15)
    = shapeCast S800000x9x8 (U (Proc.devRef .tc main_v14)) shapeCasts_S50000x1152_S800000x9x8 := by
  after_results; rfl

end Cert.KernelIdeal.So2

end
-- ==== Proof.Regions.lean ====
/- WHAT EACH OF THE TWO LAUNCHES LEAVES IN ITS RESULT ARRAY, at any entry contents `V`: a matrix product. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.So2

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Launch 0's three windows all sit at block index 0. -/
theorem index0 : ∀ t : Fin cfg0.N, win0_0.index t = ![0, 0] ∧ win0_1.index t = ![0, 0] ∧ win0_2.index t = ![0, 0] :=
  (by decide +kernel : ∀ t : Fin grid0.N, _)

/-- At point `t` launch 1 reads row block `t` of the rows, the whole matrix, and writes row block `t`. -/
theorem index1 : ∀ t : Fin cfg1.N, win1_0.index t = ![t.val, 0] ∧ win1_1.index t = ![0, 0] ∧ win1_2.index t = ![t.val, 0] :=
  (by decide +kernel : ∀ t : Fin grid1.N, _)

/-- The product of an 81×19 and a 19×64 matrix. -/
def prod0 (A : FVec Ideal S81x19 .f32) (B : FVec Ideal S19x64 .f32) : FVec Ideal S81x64 .f32 :=
  fun i => ∑ q : Fin 19, A (ix2 (i 0) q) * B (ix2 q (i 1))

/-- The product of a 50000×1152 and a 1152×1152 matrix. -/
def prod1 (A : FVec Ideal S50000x1152 .f32) (B : FVec Ideal S1152x1152 .bf16) : FVec Ideal S50000x1152 .f32 :=
  fun i => ∑ k : Fin 1152, A (ix2 (i 0) k) * B (ix2 k (i 1))

/-- Launch 0 leaves the product of its two operand arrays. -/
theorem region0 (c : Dev nD) : (dat0 V c).arrAt 2 cfg0.N = prod0 (V c main_cst) (V c main_v0) := by
  refine (dat0 V c).arrAt_eq_of_covers 2 _ (by decide +kernel) fun t hf y => ?_
  blk_simp
  rw [after0_2]; frame_out
  pointwise [k0_pay1, prod0]
  blk_point [iblk0, index0 t]

/-- Launch 1 leaves the product of its two operand arrays. -/
theorem region1 (c : Dev nD) : (dat1 V c).arrAt 2 cfg1.N = prod1 (V c main_v13) (V c main_v12) := by
  refine (dat1 V c).arrAt_eq_of_covers 2 _ (by decide +kernel) fun t hf y => ?_
  blk_simp
  rw [after1_2]; frame_out
  pointwise [k1_pay1, prod1]
  blk_point [iblk1, index1 t]

end Cert.KernelIdeal.So2

end
-- ==== Proof.Tables.lean ====
/- THE TABLES OF THE CONTRACTION: the 29 terms (output component, input component, sign, weight), and how the kernel's
   81×19 constant holds them. -/
module

public import proofs.«01_k».proof.Proof.Gen.KernelIdeal
public import proofs.«01_k».proof.Proof.Gen.ReferenceIdeal

@[expose] public section

set_option maxRecDepth 16384

namespace Cert.So2

/-- The output component of each term. -/
def mOut (k : Fin 29) : Fin 9 :=
  (![0, 0, 0, 1, 1, 1, 1, 2, 2, 2, 3, 3, 3, 3, 4, 4, 5, 5, 5, 5, 6, 6, 6, 7, 7, 7, 7, 8, 8] : Fin 29 → Fin 9) k

/-- The input component of each term. -/
def mIn (k : Fin 29) : Fin 9 :=
  (![0, 2, 6, 1, 3, 5, 7, 0, 2, 6, 1, 3, 5, 7, 4, 8, 1, 3, 5, 7, 0, 2, 6, 1, 3, 5, 7, 4, 8] : Fin 29 → Fin 9) k

/-- The weight matrix of each term. -/
def wIdx (k : Fin 29) : Fin 19 :=
  (![0, 1, 2, 6, 4, 9, 7, 3, 5, 8, 4, 6, 7, 9, 18, 14, 13, 11, 17, 15, 10, 12, 16, 11, 13, 15, 17, 14, 18] : Fin 29 → Fin 19) k

/-- The reference's output component table. -/
theorem lit0_eq : ∀ k, Cert.ReferenceIdeal.lit0 k = BitVec.ofNat 32 (mOut k).val := by decide +kernel
/-- The reference's input component table. -/
theorem lit1_eq : ∀ k, Cert.ReferenceIdeal.lit1 k = BitVec.ofNat 32 (mIn k).val := by decide +kernel
/-- The reference's weight table. -/
theorem lit3_eq : ∀ k, Cert.ReferenceIdeal.lit3 k = BitVec.ofNat 32 (wIdx k).val := by decide +kernel

/-- No two terms have the same output and input component. -/
theorem pair_inj : ∀ k k' : Fin 29, mOut k = mOut k' → mIn k = mIn k' → k = k' := by decide +kernel

/-- Position of an entry of the kernel's table: row `9 * mi + mo`, column `q`. -/
def pos (mi mo : Fin 9) (q : Fin 19) : Fin 1539 :=
  ⟨(9 * mi.val + mo.val) * 19 + q.val, by have := mi.isLt; have := mo.isLt; have := q.isLt; omega⟩

/-- At a term's row and column the kernel's table holds the term's sign. -/
theorem table_hit : ∀ k : Fin 29,
    Cert.KernelIdeal.lit0 (pos (mIn k) (mOut k) (wIdx k)) = Cert.ReferenceIdeal.lit2 k := by decide +kernel

/-- Everywhere else the kernel's table holds zero. -/
theorem table_miss : ∀ (mi mo : Fin 9) (q : Fin 19),
    (∀ k : Fin 29, mOut k = mo → mIn k = mi → wIdx k ≠ q) → Cert.KernelIdeal.lit0 (pos mi mo q) = 0#32 := by
  decide +kernel

end Cert.So2
-- ==== Proof.Reads.lean ====
/- THE HOST TERMS OF THE KERNEL READ AT AN INDEX. -/
module

public import proofs.«01_k».proof.Proof.Host
public import proofs.«01_k».proof.Proof.Regions
public import proofs.«01_k».proof.Proof.Tables

@[expose] public section

set_option maxRecDepth 16384

noncomputable section

namespace Cert.KernelIdeal.So2

open Idealize.ShloMosaic
open Cert.KernelIdeal Cert.KernelIdeal.Gen Cert.So2

/-- The identity matrix is one on its diagonal and zero elsewhere. -/
theorem eye_apply (a b : Fin 16) : eye (ix2 a b) = if a = b then 1 else 0 := by
  pointwise [eye]
  have hw : ∀ a b : Fin 16, (IntOp.cmpi .eq (IntOp.addi (BitVec.ofNat 32 a.val) 0#32) (BitVec.ofNat 32 b.val)).toNat
      = if a = b then 1 else 0 := by decide +kernel
  show (((IntOp.cmpi .eq (IntOp.addi (BitVec.ofNat 32 a.val) 0#32) (BitVec.ofNat 32 b.val)).toNat : ℝ) : EReal) = _
  rw [hw]
  by_cases h : a = b
  · rw [if_pos h, if_pos h, Nat.cast_one, EReal.coe_one]
  · rw [if_neg h, if_neg h, Nat.cast_zero, EReal.coe_zero]

/-- An entry of the Kronecker product. -/
theorem kron_apply (E : FVec Ideal S16x16 .bf16) (b : FVec Ideal S72x72 .bf16) (s s' : Fin 16) (u u' : Fin 72)
    (k j : Fin 1152) (hk : k.val = s.val * 72 + u.val) (hj : j.val = s'.val * 72 + u'.val) :
    kron E b (ix2 k j) = E (ix2 s s') * b (ix2 u u') := by
  pointwise [kron]
  congr 2 <;> congr 1 <;> apply Fin.ext <;> simp only <;> omega

/-- An entry of the 72×72 matrix. -/
theorem small_apply (C : FVec Ideal S81x64 .f32) (mi mo : Fin 9) (ci co : Fin 8) (u u' : Fin 72) (p : Fin 81) (e : Fin 64)
    (hu : u.val = mi.val * 8 + ci.val) (hu' : u'.val = mo.val * 8 + co.val)
    (hp : p.val = mi.val * 9 + mo.val) (he : e.val = ci.val * 8 + co.val) :
    small C (ix2 u u') = C (ix2 p e) := by
  pointwise [small]
  congr 2 <;> apply Fin.ext <;> simp only <;> omega

/-- The rows of `x`: sixteen of its 9×8 slabs side by side. -/
theorem rows_apply (x : FVec Ideal S800000x9x8 .f32) (n : Fin 800000) (mi : Fin 9) (ci : Fin 8) (r : Fin 50000) (k : Fin 1152)
    (h : r.val * 1152 + k.val = n.val * 72 + (mi.val * 8 + ci.val)) :
    shapeCast S50000x1152 x shapeCasts_S800000x9x8_S50000x1152 (ix2 r k) = x (ix3 n mi ci) := by
  pointwise
  congr 2 <;> apply Fin.ext <;> simp only <;> omega

/-- The result, cut back into its 9×8 slabs. -/
theorem slabs_apply (y : FVec Ideal S50000x1152 .f32) (n : Fin 800000) (mo : Fin 9) (co : Fin 8) (r : Fin 50000) (j : Fin 1152)
    (h : r.val * 1152 + j.val = n.val * 72 + (mo.val * 8 + co.val)) :
    shapeCast S800000x9x8 y shapeCasts_S50000x1152_S800000x9x8 (ix3 n mo co) = y (ix2 r j) := by
  pointwise
  congr 2 <;> apply Fin.ext <;> simp only <;> omega

/-- The weight as 19 rows of 64. -/
theorem weight_apply (w : FVec Ideal S1x19x8x8 .f32) (q : Fin 19) (ci co : Fin 8) (e : Fin 64) (he : e.val = ci.val * 8 + co.val) :
    shapeCast S19x64 w shapeCasts_S1x19x8x8_S19x64 (ix2 q e) = w (ix4 0 q ci co) := by
  pointwise
  congr 2 <;> apply Fin.ext <;> simp only <;> omega

/-- An entry of the constant table. -/
theorem table_apply (mi mo : Fin 9) (q : Fin 19) (p : Fin 81) (hp : p.val = mi.val * 9 + mo.val) :
    table (ix2 p q) = Ideal.ofBits .f32 (lit0 (pos mi mo q)) := by
  unfold table
  refine congrArg (fun z => Ideal.ofBits .f32 (lit0 z)) (Fin.ext ?_)
  have hr := Idealize.ShloMosaic.rowMajor_val2 (d := S81x19.size) (ix2 p q) 19 rfl
  refine hr.trans ?_
  show p.val * 19 + q.val = (9 * mi.val + mo.val) * 19 + q.val
  omega

end Cert.KernelIdeal.So2

end
-- ==== Proof.KernelReads.lean ====
/- WHAT THE KERNEL'S TWO PRODUCTS AND ITS HOST TERMS HOLD TOGETHER, AT AN INDEX OF THE RESULT. -/
module

public import proofs.«01_k».proof.Proof.Reads

@[expose] public section

set_option maxRecDepth 16384

noncomputable section

namespace Cert.KernelIdeal.So2

open Idealize.ShloMosaic
open Cert.KernelIdeal Cert.KernelIdeal.Gen Cert.So2

/-- The kernel's result as one term of its arguments. -/
def value (x : FVec Ideal S800000x9x8 .f32) (w : FVec Ideal S1x19x8x8 .f32) : FVec Ideal S800000x9x8 .f32 :=
  shapeCast S800000x9x8
    (prod1 (shapeCast S50000x1152 x shapeCasts_S800000x9x8_S50000x1152)
      (kron eye (small (prod0 table (shapeCast S19x64 w shapeCasts_S1x19x8x8_S19x64)))))
    shapeCasts_S50000x1152_S800000x9x8

/-- Place of (slab, component, channel) in a row of 1152. -/
def lane (s : Fin 16) (mi : Fin 9) (ci : Fin 8) : Fin 1152 :=
  ⟨s.val * 72 + (mi.val * 8 + ci.val), by have := s.isLt; have := mi.isLt; have := ci.isLt; omega⟩

/-- A sum over a row of 1152 is a sum over its slabs, their components and their channels. -/
theorem sum_lane (F : Fin 1152 → EReal) : ∑ k, F k = ∑ s : Fin 16, ∑ mi : Fin 9, ∑ ci : Fin 8, F (lane s mi ci) := by
  have h1 : ∑ k, F k = ∑ p : Fin 16 × Fin 72, F (finProdFinEquiv (m := 16) (n := 72) p) :=
    (Equiv.sum_comp (finProdFinEquiv (m := 16) (n := 72)) F).symm
  rw [h1, Fintype.sum_prod_type]
  refine Finset.sum_congr rfl fun s _ => ?_
  have h2 : ∑ u : Fin 72, F (finProdFinEquiv (m := 16) (n := 72) (s, u))
      = ∑ p : Fin 9 × Fin 8, F (finProdFinEquiv (m := 16) (n := 72) (s, finProdFinEquiv (m := 9) (n := 8) p)) :=
    (Equiv.sum_comp (finProdFinEquiv (m := 9) (n := 8)) fun u => F (finProdFinEquiv (m := 16) (n := 72) (s, u))).symm
  rw [h2, Fintype.sum_prod_type]
  refine Finset.sum_congr rfl fun mi _ => Finset.sum_congr rfl fun ci _ => congrArg F (Fin.ext ?_)
  show (ci.val + 8 * mi.val) + 72 * s.val = s.val * 72 + (mi.val * 8 + ci.val)
  omega

/-- An entry of launch 0's product: the table's row for (mi, mo) times the weights at (ci, co). -/
theorem prod0_apply (w : FVec Ideal S1x19x8x8 .f32) (mi mo : Fin 9) (ci co : Fin 8) (p : Fin 81) (e : Fin 64)
    (hp : p.val = mi.val * 9 + mo.val) (he : e.val = ci.val * 8 + co.val) :
    prod0 table (shapeCast S19x64 w shapeCasts_S1x19x8x8_S19x64) (ix2 p e)
      = ∑ q : Fin 19, Ideal.ofBits .f32 (lit0 (pos mi mo q)) * w (ix4 0 q ci co) := by
  refine Finset.sum_congr rfl fun q _ => ?_
  show table (ix2 p q) * shapeCast S19x64 w shapeCasts_S1x19x8x8_S19x64 (ix2 q e) = _
  rw [table_apply mi mo q p hp, weight_apply w q ci co e he]

/-- An entry of the block-diagonal matrix: zero off the diagonal blocks, launch 0's product on them. -/
theorem block_apply (w : FVec Ideal S1x19x8x8 .f32) (s s' : Fin 16) (mi mo : Fin 9) (ci co : Fin 8) :
    kron eye (small (prod0 table (shapeCast S19x64 w shapeCasts_S1x19x8x8_S19x64))) (ix2 (lane s mi ci) (lane s' mo co))
      = if s = s' then ∑ q : Fin 19, Ideal.ofBits .f32 (lit0 (pos mi mo q)) * w (ix4 0 q ci co) else 0 := by
  have := mi.isLt; have := mo.isLt; have := ci.isLt; have := co.isLt
  rw [kron_apply eye _ s s' ⟨mi.val * 8 + ci.val, by omega⟩ ⟨mo.val * 8 + co.val, by omega⟩ _ _ rfl rfl, eye_apply]
  by_cases h : s = s'
  · rw [if_pos h, if_pos h, one_mul,
      small_apply _ mi mo ci co _ _ ⟨mi.val * 9 + mo.val, by omega⟩ ⟨ci.val * 8 + co.val, by omega⟩ rfl rfl rfl rfl,
      prod0_apply w mi mo ci co _ _ rfl rfl]
  · rw [if_neg h, if_neg h, zero_mul]

/-- **The kernel's result at an index**: over the input components and channels, `x` times the combined weight. -/
theorem value_apply (x : FVec Ideal S800000x9x8 .f32) (w : FVec Ideal S1x19x8x8 .f32) (n : Fin 800000) (mo : Fin 9) (co : Fin 8) :
    value x w (ix3 n mo co) = ∑ mi : Fin 9, ∑ ci : Fin 8,
      x (ix3 n mi ci) * ∑ q : Fin 19, Ideal.ofBits .f32 (lit0 (pos mi mo q)) * w (ix4 0 q ci co) := by
  have hn := n.isLt
  obtain ⟨r, hr⟩ : ∃ r : Fin 50000, r.val = n.val / 16 := ⟨⟨n.val / 16, by omega⟩, rfl⟩
  obtain ⟨s', hs⟩ : ∃ s : Fin 16, s.val = n.val % 16 := ⟨⟨n.val % 16, by omega⟩, rfl⟩
  unfold value
  rw [slabs_apply _ n mo co r (lane s' mo co) (by show _ + (s'.val * 72 + _) = _; omega)]
  show ∑ k : Fin 1152, shapeCast S50000x1152 x shapeCasts_S800000x9x8_S50000x1152 (ix2 r k)
    * kron eye (small (prod0 table (shapeCast S19x64 w shapeCasts_S1x19x8x8_S19x64))) (ix2 k (lane s' mo co)) = _
  rw [sum_lane, Finset.sum_eq_single s']
  · refine Finset.sum_congr rfl fun mi _ => Finset.sum_congr rfl fun ci _ => ?_
    rw [block_apply, if_pos rfl, rows_apply x n mi ci r (lane s' mi ci) (by show _ + (s'.val * 72 + _) = _; omega)]
  · intro s _ h
    refine Finset.sum_eq_zero fun mi _ => Finset.sum_eq_zero fun ci _ => ?_
    rw [block_apply, if_neg h, mul_zero]
  · intro h
    exact absurd (Finset.mem_univ _) h

end Cert.KernelIdeal.So2

end
-- ==== Proof.KernelValue.lean ====
/- THE KERNEL'S RESULT ARRAY IS `value` OF ITS ARGUMENTS: its host operations and its two launches, one after another. -/
module

public import proofs.«01_k».proof.Proof.Run
public import proofs.«01_k».proof.Proof.KernelReads

@[expose] public section

set_option maxRecDepth 16384

noncomputable section

namespace Cert.KernelIdeal.So2

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- Launch 0 leaves the product of the constant table and the weight's 19 rows. -/
theorem after_launch0 : W2 m ρ c (Proc.devRef .tc main_v1)
    = prod0 table (shapeCast S19x64 (m ((c.tc : Thread nD τ).loc main_arg1)) shapeCasts_S1x19x8x8_S19x64) := by
  have h := (W2_arr m ρ c 2).trans (region0 (V1 m ρ) c)
  refine h.trans ?_
  have h0 : V1 m ρ c main_cst = table := host_cst (W0 m ρ c)
  have h1 : V1 m ρ c main_v0 = shapeCast S19x64 (m ((c.tc : Thread nD τ).loc main_arg1)) shapeCasts_S1x19x8x8_S19x64 :=
    host_v0 (W0 m ρ c)
  rw [h0, h1]

/-- Before launch 1 its right operand is the block-diagonal matrix. -/
theorem before_launch1_matrix : V5 m ρ c main_v12
    = kron eye (small (prod0 table (shapeCast S19x64 (m ((c.tc : Thread nD τ).loc main_arg1)) shapeCasts_S1x19x8x8_S19x64))) := by
  have h4 : W4 m ρ c (Proc.devRef .tc main_v12)
      = kron (W3 m ρ c (Proc.devRef .tc main_v11)) (W3 m ρ c (Proc.devRef .tc main_v5)) := host_v12 (W3 m ρ c)
  have h11 : W3 m ρ c (Proc.devRef .tc main_v11) = eye := host_v11 (W2 m ρ c)
  have h5 : W3 m ρ c (Proc.devRef .tc main_v5) = small (W2 m ρ c (Proc.devRef .tc main_v1)) := host_v5 (W2 m ρ c)
  refine (W5_of m ρ c main_v12 (by decide)).trans ?_
  rw [h4, h11, h5, after_launch0]

/-- Before launch 1 its left operand is `x`, 50000 rows of 1152. -/
theorem before_launch1_rows : V5 m ρ c main_v13
    = shapeCast S50000x1152 (m ((c.tc : Thread nD τ).loc main_arg0)) shapeCasts_S800000x9x8_S50000x1152 := by
  have h : W5 m ρ c (Proc.devRef .tc main_v13)
      = shapeCast S50000x1152 (W4 m ρ c (Proc.devRef .tc main_arg0)) shapeCasts_S800000x9x8_S50000x1152 := host_v13 (W4 m ρ c)
  refine h.trans ?_
  rw [W4_args m ρ c main_arg0 (by decide)]

/-- The result array ends at `value` of the arguments. -/
theorem result_eq : W7 m ρ c (Proc.devRef .tc main_v15)
    = value (m ((c.tc : Thread nD τ).loc main_arg0)) (m ((c.tc : Thread nD τ).loc main_arg1)) := by
  have h7 : W7 m ρ c (Proc.devRef .tc main_v15)
      = shapeCast S800000x9x8 (W6 m ρ c (Proc.devRef .tc main_v14)) shapeCasts_S50000x1152_S800000x9x8 := host_v15 (W6 m ρ c)
  have h6 : W6 m ρ c (Proc.devRef .tc main_v14) = prod1 (V5 m ρ c main_v13) (V5 m ρ c main_v12) :=
    (W6_arr m ρ c 2).trans (region1 (V5 m ρ) c)
  rw [h7, h6, before_launch1_matrix, before_launch1_rows]
  rfl

end Cert.KernelIdeal.So2

end
-- ==== Proof.RefTerm.lean ====
/- THE REFERENCE'S TERM, in the pieces it is made of: the term that its run leaves, named. -/
module

public import proofs.«01_k».proof.Proof.Gen.ReferenceIdeal.Run
public import proofs.«01_k».proof.Proof.Tables
public import Idealize.ShloMosaic.Lib.Pointwise

@[expose] public section

set_option maxRecDepth 16384

noncomputable section

namespace Cert.ReferenceIdeal.So2

open Idealize.ShloMosaic Idealize.ShloMosaic.TcCoe Idealize.SL.Sem
open Cert.ReferenceIdeal Cert.ReferenceIdeal.Gen Cert.So2

/-- A column of indices, a negative one counted from the end of an axis of `n`. -/
def wrap (n : BitVec 32) (l : IVec S29 32) : IVec S29x1 32 :=
  broadcastInDim S29x1 ![0] bcast_S29_S29x1_0
    (select (cmpi .slt l (broadcastInDim S29 ![] bcast_S_S29 (constantI S_ 32 0#32)))
      (addi l (broadcastInDim S29 ![] bcast_S_S29 (constantI S_ 32 n))) l)

/-- Which indices lie between 0 and `top`. -/
def inside (top : BitVec 32) (i : IVec S29x1 32) : IVec S29 1 :=
  Host.reduce IntOp.andi (andi (cmpi .sge i (broadcastInDim S29x1 ![] bcast_S_S29x1 (constantI S_ 32 0#32)))
    (cmpi .sle i (broadcastInDim S29x1 ![0, 1] bcast_S1x1_S29x1_0_1 (broadcastInDim S1x1 ![1] bcast_S1_S1x1_1 (constantI S1 32 top)))))
    (constantI S_ 1 1#1) reducesTo_S29x1_S29_d1 h_S_

/-- The slabs of `x` that the 29 terms read. -/
def takeX (x : FVec Ideal S800000x9x8 .f32) : FVec Ideal S800000x29x8 .f32 :=
  select (broadcastInDim S800000x29x8 ![1] bcast_S29_S800000x29x8_1 (inside 8#32 (wrap 9#32 fun i => lit1 (S29.rowMajor i))))
    (Host.gather gather_S800000x9x8_S29x1_S800000x29x8_02_1_n_n_1_1_80000018 x (wrap 9#32 fun i => lit1 (S29.rowMajor i)))
    (broadcastInDim S800000x29x8 ![] bcast_S_S800000x29x8 (constant S_ .f32 0x7FC00000#32))

/-- The weight matrices that the 29 terms read. -/
def takeW (w : FVec Ideal S1x19x8x8 .f32) : FVec Ideal S1x29x8x8 .f32 :=
  select (broadcastInDim S1x29x8x8 ![1] bcast_S29_S1x29x8x8_1 (inside 18#32 (wrap 19#32 fun i => lit3 (S29.rowMajor i))))
    (Host.gather gather_S1x19x8x8_S29x1_S1x29x8x8_023_1_n_n_1_1_1188 w (wrap 19#32 fun i => lit3 (S29.rowMajor i)))
    (broadcastInDim S1x29x8x8 ![] bcast_S_S1x29x8x8 (constant S_ .f32 0x7FC00000#32))

/-- The weight matrices with their signs. -/
def signed (W : FVec Ideal S1x29x8x8 .f32) : FVec Ideal S1x29x8x8 .f32 :=
  mulf W (broadcastInDim S1x29x8x8 ![0, 1, 2, 3] bcast_S1x29x1x1_S1x29x8x8_0_1_2_3
    (shapeCast S1x29x1x1 (fun i => FloatOps.ofBits .f32 (lit2 (S29.rowMajor i))) shapeCasts_S29_S1x29x1x1))

/-- The 29 terms' products, term by term. -/
def terms (X : FVec Ideal S800000x29x8 .f32) (W : FVec Ideal S1x29x8x8 .f32) : FVec Ideal S800000x29x8 .f32 :=
  shapeCast S800000x29x8 (transpose S800000x29x1x8 [1, 0, 2, 3]
    (Host.dotGeneral dot_S800000x29x1x8_S29x8x8_S29x800000x1x8_3_1_02_2_1_0 none
      (broadcastInDim S800000x29x1x8 ![0, 1, 3] bcast_S800000x29x8_S800000x29x1x8_0_1_3 X)
      (shapeCast S29x8x8 W shapeCasts_S1x29x8x8_S29x8x8)) transposes_S29x800000x1x8_S800000x29x1x8_1_0_2_3)
    shapeCasts_S800000x29x1x8_S800000x29x8

/-- The reference's result: every term added into its output component. -/
def result (x : FVec Ideal S800000x9x8 .f32) (w : FVec Ideal S1x19x8x8 .f32) : FVec Ideal S800000x9x8 .f32 :=
  Host.scatterAdd scatter_S800000x9x8_S29x1_S800000x29x8_02_1_1_1
    (broadcastInDim S800000x9x8 ![] bcast_S_S800000x9x8 (constant S_ .f32 0x00000000#32))
    (wrap 9#32 fun i => lit0 (S29.rowMajor i)) (terms (takeX x) (signed (takeW w)))

/-- The reference ends with its result array at `result` of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.ReferenceIdeal.So2

end
-- ==== Proof.RefReads.lean ====
/- THE REFERENCE'S TERM READ AT AN INDEX. -/
module

public import proofs.«01_k».proof.Proof.RefTerm
public import Idealize.ShloMosaic.Lib.Routing.OpsPair

@[expose] public section

set_option maxRecDepth 16384

noncomputable section

namespace Cert.ReferenceIdeal.So2

open Idealize.ShloMosaic
open Cert.ReferenceIdeal Cert.ReferenceIdeal.Gen Cert.So2

/-- A vector of 29 is read row-major at its one coordinate. -/
theorem rowMajor29 (k : Fin 29) : S29.rowMajor (ix1 k) = k := by
  exact Fin.ext (Idealize.ShloMosaic.rowMajor_val1 (d := S29.size) (ix1 k))

/-- A table of small numbers is left as it is by the counting from the end. -/
theorem wrap_apply (n : BitVec 32) (l : Fin 29 → BitVec 32) (v : Fin 29 → ℕ) (hv : ∀ k, v k < 19)
    (hl : ∀ k, l k = BitVec.ofNat 32 (v k)) (k : Fin 29) (z : Fin 1) :
    wrap n (fun i => l (S29.rowMajor i)) (ix2 k z) = BitVec.ofNat 32 (v k) := by
  pointwise [wrap]
  rw [rowMajor29, hl]
  refine Routing.wrap_of_lt _ _ ?_
  have := hv k
  rw [BitVec.toNat_ofNat, Nat.mod_eq_of_lt (by omega)]
  omega

/-- Every index of such a table lies inside. -/
theorem inside_apply (top : BitVec 32) (i : IVec S29x1 32) (h : ∀ k, IntOp.andi (IntOp.cmpi .sge (i (ix2 k 0)) 0#32) (IntOp.cmpi .sle (i (ix2 k 0)) top) = 1#1) (k : Fin 29) :
    inside top i (ix1 k) = 1#1 := by
  pointwise [inside]
  rw [Finset.univ_unique, Finset.fold_singleton]
  exact (congrArg (fun t => IntOp.andi t 1#1) (h k)).trans (by decide)

/-- Where the 29 slabs of `x` start: on the component axis, at the index table's entry. -/
theorem siX (n : Fin 800000) (k : Fin 29) (c : Fin 8) (z : Fin 1) :
    gather_S800000x9x8_S29x1_S800000x29x8_02_1_n_n_1_1_80000018.siIdx (ix3 n k c) z = ix2 k 0 := by
  funext b
  match b with
  | ⟨0, _⟩ => rfl
  | ⟨1, _⟩ => exact Subsingleton.elim (α := Fin 1) _ _

/-- A word below nine, read signed and kept at most eight, is itself. -/
theorem clamp9 : ∀ p : Fin 9, min (BitVec.ofNat 32 p.val).toInt.toNat (9 - 1) = p.val := by decide +kernel

/-- A word below nineteen, read signed and kept at most eighteen, is itself. -/
theorem clamp19 : ∀ p : Fin 19, min (BitVec.ofNat 32 p.val).toInt.toNat (19 - 1) = p.val := by decide +kernel

/-- A gathered slab of `x`. -/
theorem gatherX (x : FVec Ideal S800000x9x8 .f32) (idx : IVec S29x1 32) (n : Fin 800000) (k : Fin 29) (c : Fin 8) (p : Fin 9)
    (h : idx (ix2 k 0) = BitVec.ofNat 32 p.val) :
    Host.gather gather_S800000x9x8_S29x1_S800000x29x8_02_1_n_n_1_1_80000018 x idx (ix3 n k c) = x (ix3 n p c) := by
  refine congrArg x (funext fun a => Fin.ext ?_)
  match a with
  | ⟨0, _⟩ =>
    show 0 + 0 + n.val = n.val
    omega
  | ⟨1, _⟩ =>
    show min (idx (gather_S800000x9x8_S29x1_S800000x29x8_02_1_n_n_1_1_80000018.siIdx (ix3 n k c) (0 : Fin 1))).toInt.toNat (9 - 1) + 0 + 0 = p.val
    rw [siX, h, clamp9]
    rfl
  | ⟨2, _⟩ =>
    show 0 + 0 + c.val = c.val
    omega

/-- Where the 29 weight matrices start: on the matrix axis, at the index table's entry. -/
theorem siW (k : Fin 29) (a b : Fin 8) (z : Fin 1) :
    gather_S1x19x8x8_S29x1_S1x29x8x8_023_1_n_n_1_1_1188.siIdx (ix4 0 k a b) z = ix2 k 0 := by
  funext b
  match b with
  | ⟨0, _⟩ => rfl
  | ⟨1, _⟩ => exact Subsingleton.elim (α := Fin 1) _ _

/-- A gathered weight matrix. -/
theorem gatherW (w : FVec Ideal S1x19x8x8 .f32) (idx : IVec S29x1 32) (k : Fin 29) (a b : Fin 8) (q : Fin 19)
    (h : idx (ix2 k 0) = BitVec.ofNat 32 q.val) :
    Host.gather gather_S1x19x8x8_S29x1_S1x29x8x8_023_1_n_n_1_1_1188 w idx (ix4 0 k a b) = w (ix4 0 q a b) := by
  refine congrArg w (funext fun i => Fin.ext ?_)
  match i with
  | ⟨0, _⟩ => rfl
  | ⟨1, _⟩ =>
    show min (idx (gather_S1x19x8x8_S29x1_S1x29x8x8_023_1_n_n_1_1_1188.siIdx (ix4 0 k a b) (0 : Fin 1))).toInt.toNat (19 - 1) + 0 + 0 = q.val
    rw [siW, h, clamp19]
    rfl
  | ⟨2, _⟩ =>
    show 0 + 0 + a.val = a.val
    omega
  | ⟨3, _⟩ =>
    show 0 + 0 + b.val = b.val
    omega

/-- The signed weight at an index. -/
theorem signed_apply (W : FVec Ideal S1x29x8x8 .f32) (k : Fin 29) (a b : Fin 8) :
    signed W (ix4 0 k a b) = W (ix4 0 k a b) * Ideal.ofBits .f32 (lit2 k) := by
  pointwise [signed]
  rw [rowMajor29]

/-- A term at an index. -/
theorem terms_apply (X : FVec Ideal S800000x29x8 .f32) (W : FVec Ideal S1x29x8x8 .f32) (n : Fin 800000) (k : Fin 29) (co : Fin 8) :
    terms X W (ix3 n k co) = ∑ ci : Fin 8, X (ix3 n k ci) * W (ix4 0 k ci co) := by
  pointwise [terms]

/-- The slabs that the terms read: term `k` reads the input component of its table. -/
theorem takeX_apply (x : FVec Ideal S800000x9x8 .f32) (n : Fin 800000) (k : Fin 29) (c : Fin 8) :
    takeX x (ix3 n k c) = x (ix3 n (mIn k) c) := by
  have hw : ∀ k : Fin 29, wrap 9#32 (fun i => lit1 (S29.rowMajor i)) (ix2 k 0) = BitVec.ofNat 32 (mIn k).val := fun k =>
    wrap_apply 9#32 lit1 (fun k => (mIn k).val) (fun k => by have := (mIn k).isLt; omega) lit1_eq k 0
  have hi := inside_apply 8#32 (wrap 9#32 fun i => lit1 (S29.rowMajor i)) (fun k => by
    rw [hw]
    exact (by decide +kernel : ∀ p : Fin 9, IntOp.andi (IntOp.cmpi .sge (BitVec.ofNat 32 p.val) 0#32)
      (IntOp.cmpi .sle (BitVec.ofNat 32 p.val) 8#32) = 1#1) (mIn k)) k
  have hg := gatherX x (wrap 9#32 fun i => lit1 (S29.rowMajor i)) n k c (mIn k) (hw k)
  pointwise [takeX]
  rw [hi]
  exact hg

/-- The matrices that the terms read: term `k` reads the weight matrix of its table. -/
theorem takeW_apply (w : FVec Ideal S1x19x8x8 .f32) (k : Fin 29) (a b : Fin 8) :
    takeW w (ix4 0 k a b) = w (ix4 0 (wIdx k) a b) := by
  have hw : ∀ k : Fin 29, wrap 19#32 (fun i => lit3 (S29.rowMajor i)) (ix2 k 0) = BitVec.ofNat 32 (wIdx k).val := fun k =>
    wrap_apply 19#32 lit3 (fun k => (wIdx k).val) (fun k => (wIdx k).isLt) lit3_eq k 0
  have hi := inside_apply 18#32 (wrap 19#32 fun i => lit3 (S29.rowMajor i)) (fun k => by
    rw [hw]
    exact (by decide +kernel : ∀ p : Fin 19, IntOp.andi (IntOp.cmpi .sge (BitVec.ofNat 32 p.val) 0#32)
      (IntOp.cmpi .sle (BitVec.ofNat 32 p.val) 18#32) = 1#1) (wIdx k)) k
  have hg := gatherW w (wrap 19#32 fun i => lit3 (S29.rowMajor i)) k a b (wIdx k) (hw k)
  pointwise [takeW]
  rw [hi]
  exact hg

/-- Where the scattered terms land: on the component axis, at the index table's entry. -/
theorem siS (n : Fin 800000) (k : Fin 29) (c : Fin 8) (z : Fin 1) :
    scatter_S800000x9x8_S29x1_S800000x29x8_02_1_1_1.siIdx (ix3 n k c) z = ix2 k 0 := by
  funext b
  match b with
  | ⟨0, _⟩ => rfl
  | ⟨1, _⟩ => exact Subsingleton.elim (α := Fin 1) _ _

/-- A word below nine, read signed, is itself. -/
theorem signed9 : ∀ p : Fin 9, (BitVec.ofNat 32 p.val).toInt = (p.val : Int) := by decide +kernel

/-- Term `k` of row `n'`, column `co'`, lands at `(n, mo, co)` exactly when the rows and the columns agree and the term's
    output component is `mo`. -/
theorem lands (idx : IVec S29x1 32) (m : Fin 29 → Fin 9) (h : ∀ k, idx (ix2 k 0) = BitVec.ofNat 32 (m k).val)
    (n' n : Fin 800000) (k : Fin 29) (co' co : Fin 8) (mo : Fin 9) :
    scatter_S800000x9x8_S29x1_S800000x29x8_02_1_1_1.resultIdx? (ix3 n' k co') idx = some (ix3 n mo co)
      ↔ n' = n ∧ m k = mo ∧ co' = co := by
  rw [Routing.resultIdx?_eq_some]
  have h0 : scatter_S800000x9x8_S29x1_S800000x29x8_02_1_1_1.start (ix3 n' k co') idx (0 : Fin 3)
      + (scatter_S800000x9x8_S29x1_S800000x29x8_02_1_1_1.window (ix3 n' k co') (0 : Fin 3) : Int) = (n'.val : Int) := by
    show (0 : Int) + (n'.val : Int) = _
    omega
  have h1 : scatter_S800000x9x8_S29x1_S800000x29x8_02_1_1_1.start (ix3 n' k co') idx (1 : Fin 3)
      + (scatter_S800000x9x8_S29x1_S800000x29x8_02_1_1_1.window (ix3 n' k co') (1 : Fin 3) : Int) = ((m k).val : Int) := by
    show (idx (scatter_S800000x9x8_S29x1_S800000x29x8_02_1_1_1.siIdx (ix3 n' k co') (0 : Fin 1))).toInt + ((0 : ℕ) : Int) = _
    rw [siS, h, signed9]
    omega
  have h2 : scatter_S800000x9x8_S29x1_S800000x29x8_02_1_1_1.start (ix3 n' k co') idx (2 : Fin 3)
      + (scatter_S800000x9x8_S29x1_S800000x29x8_02_1_1_1.window (ix3 n' k co') (2 : Fin 3) : Int) = (co'.val : Int) := by
    show (0 : Int) + (co'.val : Int) = _
    omega
  constructor
  · intro q
    have q0 := h0.symm.trans (q (0 : Fin 3))
    have q1 := h1.symm.trans (q (1 : Fin 3))
    have q2 := h2.symm.trans (q (2 : Fin 3))
    exact ⟨Fin.ext (Int.ofNat.inj q0), Fin.ext (Int.ofNat.inj q1), Fin.ext (Int.ofNat.inj q2)⟩
  · rintro ⟨rfl, rfl, rfl⟩ a
    match a with
    | ⟨0, _⟩ => exact h0
    | ⟨1, _⟩ => exact h1
    | ⟨2, _⟩ => exact h2

/-- **The reference's result at an index**: the terms whose output component is `mo`, each a product of a slab's row with
    a column of its signed weight matrix. -/
theorem result_apply (x : FVec Ideal S800000x9x8 .f32) (w : FVec Ideal S1x19x8x8 .f32) (n : Fin 800000) (mo : Fin 9) (co : Fin 8) :
    result x w (ix3 n mo co) = ∑ k : Fin 29, if mOut k = mo then
      ∑ ci : Fin 8, x (ix3 n (mIn k) ci) * (w (ix4 0 (wIdx k) ci co) * Ideal.ofBits .f32 (lit2 k)) else 0 := by
  have hw : ∀ k : Fin 29, wrap 9#32 (fun i => lit0 (S29.rowMajor i)) (ix2 k 0) = BitVec.ofNat 32 (mOut k).val := fun k =>
    wrap_apply 9#32 lit0 (fun k => (mOut k).val) (fun k => by have := (mOut k).isLt; omega) lit0_eq k 0
  have ht : ∀ k : Fin 29, terms (takeX x) (signed (takeW w)) (ix3 n k co)
      = ∑ ci : Fin 8, x (ix3 n (mIn k) ci) * (w (ix4 0 (wIdx k) ci co) * Ideal.ofBits .f32 (lit2 k)) := fun k => by
    rw [terms_apply]
    exact Finset.sum_congr rfl fun ci _ => by rw [takeX_apply, signed_apply, takeW_apply]
  show Ideal.ofBits .f32 0x00000000#32 + ∑ j ∈ Finset.univ.filter (fun j =>
    scatter_S800000x9x8_S29x1_S800000x29x8_02_1_1_1.resultIdx? j (wrap 9#32 fun i => lit0 (S29.rowMajor i)) = some (ix3 n mo co)),
      terms (takeX x) (signed (takeW w)) j = _
  rw [Ideal.ofBits_zero_f32, zero_add, ← Finset.sum_filter]
  refine (Finset.sum_bij (fun k _ => ix3 n k co) ?_ ?_ ?_ ?_).symm
  · intro k hk
    exact Finset.mem_filter.2 ⟨Finset.mem_univ _, (lands _ mOut hw n n k co co mo).2 ⟨rfl, (Finset.mem_filter.1 hk).2, rfl⟩⟩
  · intro k _ k' _ e
    exact congrFun e (1 : Fin 3)
  · intro j hj
    have hj' := (Finset.mem_filter.1 hj).2
    rw [eq_ix3 j] at hj'
    obtain ⟨e0, e1, e2⟩ := (lands _ mOut hw _ n _ _ co mo).1 hj'
    refine ⟨j 1, Finset.mem_filter.2 ⟨Finset.mem_univ _, e1⟩, ?_⟩
    rw [← e0, ← e2]
    exact (eq_ix3 j).symm
  · intro k _
    exact (ht k).symm

end Cert.ReferenceIdeal.So2

end
-- ==== Proof.Equation.lean ====
/- THE EQUATION: the kernel's result is the reference's, at every index. -/
module

public import proofs.«01_k».proof.Proof.KernelReads
public import proofs.«01_k».proof.Proof.RefReads

@[expose] public section

set_option maxRecDepth 16384

noncomputable section

namespace Cert.So2

open Idealize.ShloMosaic
open Cert.KernelIdeal

/-- The kernel's combined weight at a term's input and output component is the term's signed weight. -/
theorem combined_term (w : Fin 19 → EReal) (k : Fin 29) :
    ∑ q : Fin 19, Ideal.ofBits .f32 (Cert.KernelIdeal.lit0 (pos (mIn k) (mOut k) q)) * w q
      = w (wIdx k) * Ideal.ofBits .f32 (Cert.ReferenceIdeal.lit2 k) := by
  rw [Finset.sum_eq_single (wIdx k)]
  · rw [table_hit, mul_comm]
  · intro q _ hq
    rw [table_miss (mIn k) (mOut k) q (fun k' ho hi e => hq (by rw [← e, pair_inj k' k ho hi])), Ideal.ofBits_zero_f32, zero_mul]
  · intro h
    exact absurd (Finset.mem_univ _) h

/-- The kernel's combined weight is zero where no term has that input and output component. -/
theorem combined_none (w : Fin 19 → EReal) (mi mo : Fin 9) (h : ∀ k, mOut k = mo → mIn k ≠ mi) :
    ∑ q : Fin 19, Ideal.ofBits .f32 (Cert.KernelIdeal.lit0 (pos mi mo q)) * w q = 0 :=
  Finset.sum_eq_zero fun q _ => by
    rw [table_miss mi mo q (fun k ho hi _ => h k ho hi), Ideal.ofBits_zero_f32, zero_mul]

/-- The part of the reference's sum with input component `mi` is the kernel's part with it. -/
theorem part (x : Fin 9 → Fin 8 → EReal) (w : Fin 19 → Fin 8 → EReal) (mi mo : Fin 9) :
    (∑ k : Fin 29, if mIn k = mi then (if mOut k = mo then
        ∑ ci : Fin 8, x (mIn k) ci * (w (wIdx k) ci * Ideal.ofBits .f32 (Cert.ReferenceIdeal.lit2 k)) else 0) else 0)
      = ∑ ci : Fin 8, x mi ci * ∑ q : Fin 19, Ideal.ofBits .f32 (Cert.KernelIdeal.lit0 (pos mi mo q)) * w q ci := by
  by_cases h : ∃ k, mOut k = mo ∧ mIn k = mi
  · obtain ⟨k, rfl, rfl⟩ := h
    rw [Finset.sum_eq_single k]
    · rw [if_pos rfl, if_pos rfl]
      exact Finset.sum_congr rfl fun ci _ => by rw [combined_term fun q => w q ci]
    · intro k' _ hk
      by_cases hi : mIn k' = mIn k
      · rw [if_pos hi, if_neg fun ho => hk (pair_inj k' k ho hi)]
      · rw [if_neg hi]
    · intro hk
      exact absurd (Finset.mem_univ _) hk
  · have hn : ∀ k, mOut k = mo → mIn k ≠ mi := fun k ho hi => h ⟨k, ho, hi⟩
    rw [Finset.sum_eq_zero, Finset.sum_eq_zero]
    · intro ci _
      rw [combined_none (fun q => w q ci) mi mo hn, mul_zero]
    · intro k _
      by_cases hi : mIn k = mi
      · rw [if_pos hi, if_neg fun ho => hn k ho hi]
      · rw [if_neg hi]

/-- The reference's sum over its 29 terms, grouped by input component, is the kernel's. -/
theorem grouped (x : Fin 9 → Fin 8 → EReal) (w : Fin 19 → Fin 8 → EReal) (mo : Fin 9) :
    (∑ k : Fin 29, if mOut k = mo then
        ∑ ci : Fin 8, x (mIn k) ci * (w (wIdx k) ci * Ideal.ofBits .f32 (Cert.ReferenceIdeal.lit2 k)) else 0)
      = ∑ mi : Fin 9, ∑ ci : Fin 8, x mi ci * ∑ q : Fin 19, Ideal.ofBits .f32 (Cert.KernelIdeal.lit0 (pos mi mo q)) * w q ci := by
  rw [← Finset.sum_congr rfl fun mi _ => part x w mi mo, Finset.sum_comm]
  refine Finset.sum_congr rfl fun k _ => ?_
  rw [Finset.sum_ite_eq, if_pos (Finset.mem_univ _)]

/-- **The kernel's result is the reference's.** -/
theorem equation (x : FVec Ideal S800000x9x8 .f32) (w : FVec Ideal S1x19x8x8 .f32) :
    Cert.ReferenceIdeal.So2.result x w = Cert.KernelIdeal.So2.value x w := by
  funext i
  rw [eq_ix3 i]
  refine (Cert.ReferenceIdeal.So2.result_apply x w (i 0) (i 1) (i 2)).trans ?_
  refine (grouped (fun a b => x (ix3 (i 0) a b)) (fun q b => w (ix4 0 q b (i 2))) (i 1)).trans ?_
  exact (Cert.KernelIdeal.So2.value_apply x w (i 0) (i 1) (i 2)).symm

end Cert.So2

end
-- ==== Proof.lean ====
/- THE CLAIM: the three frames, the kernel against its idealized form, and the equation with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's program declares no semaphore. -/
theorem no_semaphore (s : SemLoc Cert.ReferenceIdeal.sig) : False := by
  cases s with
  | reg s => exact Fin.elim0 s
  | dma s => exact Fin.elim0 s

/-- The reference runs to its end, leaves its arguments unchanged and every semaphore counter at zero. -/
theorem frame_reference : Cert.quiescent_ReferenceIdeal := by
  intro m ρ _
  exact (θ_run Cert.ReferenceIdeal.defs _ _).mono
    (fun r h => ⟨fun c => (h c).2, funext fun g => (no_semaphore g.2).elim⟩) (Cert.ReferenceIdeal.So2.run m ρ)

/-- From arguments that agree, the kernel and the reference end with equal results and unchanged arguments. -/
theorem algebraic : Cert.algebraic_KernelIdeal_ReferenceIdeal := by
  intro m ρ m' ρ' _ hagree
  refine ⟨fun c => Cert.KernelIdeal.Gen.W7 m ρ c (Proc.devRef .tc Cert.KernelIdeal.main_v15), Cert.KernelIdeal.So2.run m ρ, ?_⟩
  refine (θ_run Cert.ReferenceIdeal.defs _ _).mono (fun r h c => ⟨(h c).1.trans ?_, (h c).2⟩) (Cert.ReferenceIdeal.So2.run m' ρ')
  rw [(hagree c).1, (hagree c).2, Cert.So2.equation]
  exact (Cert.KernelIdeal.So2.result_eq m ρ c).symm

/-- The five claims together. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
